-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x11008 : Shape := ⟨3, ![16, 1, 11008]⟩
abbrev S4096x11008 : Shape := ⟨2, ![4096, 11008]⟩
abbrev S4096 : Shape := ⟨1, ![4096]⟩
abbrev S16x11008 : Shape := ⟨2, ![16, 11008]⟩
abbrev S1x4096 : Shape := ⟨2, ![1, 4096]⟩
abbrev S16x4096 : Shape := ⟨2, ![16, 4096]⟩
abbrev S512x11008 : Shape := ⟨2, ![512, 11008]⟩
abbrev S1x512 : Shape := ⟨2, ![1, 512]⟩
abbrev S16x512 : Shape := ⟨2, ![16, 512]⟩
abbrev S16x1x4096 : Shape := ⟨3, ![16, 1, 4096]⟩

abbrev nBuf : Space → Nat
  | .hbm => 9
  | .vmem => 9
  | .smem => 0
  | _ => 0

abbrev bufTy : (tb : Table) → Fin (tcTables nBuf tb) → BufTy
  | .hbm, ⟨0, _⟩ => ⟨S16x1x11008, .bf16⟩
  | .hbm, ⟨1, _⟩ => ⟨S4096x11008, .fp8e4m3⟩
  | .hbm, ⟨2, _⟩ => ⟨S4096, .f32⟩
  | .hbm, ⟨3, _⟩ => ⟨S4096, .f32⟩
  | .hbm, ⟨4, _⟩ => ⟨S16x11008, .bf16⟩
  | .hbm, ⟨5, _⟩ => ⟨S1x4096, .f32⟩
  | .hbm, ⟨6, _⟩ => ⟨S1x4096, .f32⟩
  | .hbm, ⟨7, _⟩ => ⟨S16x4096, .bf16⟩
  | .hbm, ⟨8, _⟩ => ⟨S16x1x4096, .bf16⟩
  | .local _ .vmem, ⟨0, _⟩ => ⟨S16x11008, .bf16⟩
  | .local _ .vmem, ⟨1, _⟩ => ⟨S512x11008, .fp8e4m3⟩
  | .local _ .vmem, ⟨2, _⟩ => ⟨S512x11008, .fp8e4m3⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S16x512, .bf16⟩
  | .local _ .vmem, ⟨8, _⟩ => ⟨S16x512, .bf16⟩
  | _, _ => ⟨S16x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x11008 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x11008 : Shape := ⟨3, ![16, 1, 11008]⟩
abbrev S4096x11008 : Shape := ⟨2, ![4096, 11008]⟩
abbrev S4096 : Shape := ⟨1, ![4096]⟩
abbrev S16x1x4096 : Shape := ⟨3, ![16, 1, 4096]⟩
abbrev S1x1x4096 : Shape := ⟨3, ![1, 1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16x1x11008, .bf16⟩
  | .hbm, ⟨1, _⟩ => ⟨S4096x11008, .fp8e4m3⟩
  | .hbm, ⟨2, _⟩ => ⟨S4096, .f32⟩
  | .hbm, ⟨3, _⟩ => ⟨S4096, .f32⟩
  | .hbm, ⟨4, _⟩ => ⟨S16x1x4096, .bf16⟩
  | .local _ .vmem, ⟨0, _⟩ => ⟨S16x1x11008, .bf16⟩
  | .local _ .vmem, ⟨1, _⟩ => ⟨S4096x11008, .fp8e4m3⟩
  | .local _ .vmem, ⟨2, _⟩ => ⟨S4096, .f32⟩
  | .local _ .vmem, ⟨3, _⟩ => ⟨S4096, .f32⟩
  | .local _ .vmem, ⟨4, _⟩ => ⟨S16x1x4096, .bf16⟩
  | _, _ => ⟨S16x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/- What one grid point of the kernel computes, and what the reference computes, each read at one index. -/
module

public import proofs.«01_k».proof.Proof.Gen.KernelIdeal.Skeleton
public import proofs.«01_k».proof.Proof.Gen.ReferenceIdeal.Skeleton
public import Idealize.ShloMosaic.Lib.Pointwise
public import Idealize.ShloMosaic.Lib.ValueIdx

@[expose] public section

set_option maxRecDepth 16384

noncomputable section

namespace Cert.Linear

open Idealize.ShloMosaic

/-- Row `r` of `x` against row `n` of the weights, scaled by channel `n`'s scale, plus channel `n`'s bias: one element
    of the linear layer, over the extended reals. -/
def linearAt (X : FVec Ideal Cert.KernelIdeal.S16x1x11008 .bf16) (Wc : FVec Ideal Cert.KernelIdeal.S4096x11008 .fp8e4m3)
    (Sc B : FVec Ideal Cert.KernelIdeal.S4096 .f32) (r : Fin 16) (n : Fin 4096) : EReal :=
  (∑ k : Fin 11008, X (ix3 r 0 k) * Wc (ix2 n k)) * Sc (ix1 n) + B (ix1 n)

/-- The kernel's payload at row `r` and column `n` of its block: the row of `x` against row `n` of the block of weights,
    scaled and shifted. -/
theorem block_at (x : FVec Ideal Cert.KernelIdeal.S16x11008 .bf16) (w : FVec Ideal Cert.KernelIdeal.S512x11008 .fp8e4m3)
    (s b : FVec Ideal Cert.KernelIdeal.S1x512 .f32) (r : Fin 16) (n : Fin 512) :
    Cert.KernelIdeal.Gen.k0_pay1 (F := Ideal) x w s b (ix2 r n)
      = (∑ k : Fin 11008, x (ix2 r k) * w (ix2 n k)) * s (ix2 0 n) + b (ix2 0 n) := by
  pointwise! [Cert.KernelIdeal.Gen.k0_pay1]

/-- The reference's result at row `r` and channel `n` is the linear layer's element. -/
theorem reference_at (X : FVec Ideal Cert.KernelIdeal.S16x1x11008 .bf16) (Wc : FVec Ideal Cert.KernelIdeal.S4096x11008 .fp8e4m3)
    (Sc B : FVec Ideal Cert.KernelIdeal.S4096 .f32) (r : Fin 16) (q : Fin 1) (n : Fin 4096) :
    Cert.ReferenceIdeal.Gen.k0_pay1 (F := Ideal) Wc X Sc B (ix3 r q n) = linearAt X Wc Sc B r n := by
  obtain rfl : q = 0 := Subsingleton.elim _ _
  pointwise! [Cert.ReferenceIdeal.Gen.k0_pay1, linearAt]

/-- Merging the batch and sequence axes of `x`, read at an index. -/
theorem merged_at (X : FVec Ideal Cert.KernelIdeal.S16x1x11008 .bf16) (r : Fin 16) (k : Fin 11008) :
    shapeCast Cert.KernelIdeal.S16x11008 X Cert.KernelIdeal.Gen.shapeCasts_S16x1x11008_S16x11008 (ix2 r k) = X (ix3 r 0 k) := by
  pointwise

/-- A vector of channels written as one row, read at an index. -/
theorem row_at (x : FVec Ideal Cert.KernelIdeal.S4096 .f32) (n : Fin 4096) :
    shapeCast Cert.KernelIdeal.S1x4096 x Cert.KernelIdeal.Gen.shapeCasts_S4096_S1x4096 (ix2 0 n) = x (ix1 n) := by
  pointwise

/-- Splitting the row axis of the result into batch and sequence, read at an index. -/
theorem split_at (Y : FVec Ideal Cert.KernelIdeal.S16x4096 .bf16) (r : Fin 16) (q : Fin 1) (n : Fin 4096) :
    shapeCast Cert.KernelIdeal.S16x1x4096 Y Cert.KernelIdeal.Gen.shapeCasts_S16x4096_S16x1x4096 (ix3 r q n) = Y (ix2 r n) := by
  obtain rfl : q = 0 := Subsingleton.elim _ _
  pointwise

end Cert.Linear

end
-- ==== Proof.KernelValue.lean ====
/- What the kernel's result array holds after a run. -/
module

public import proofs.«01_k».proof.Proof.Gen.KernelIdeal.Frame
public import proofs.«01_k».proof.Proof.Block
public import Idealize.ShloMosaic.Lib.Pipeline.ValueKit
public import Idealize.ShloMosaic.Lib.Claim

@[expose] public section

set_option maxRecDepth 16384

noncomputable section

namespace Cert.KernelIdeal.LinearValue

open Cert.KernelIdeal Cert.KernelIdeal.Gen Cert.Linear
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array that the pallas_call returns: the linear layer with the batch and sequence axes merged. -/
def out2 (X : FVec Ideal S16x1x11008 .bf16) (Wc : FVec Ideal S4096x11008 .fp8e4m3)
    (Sc B : FVec Ideal S4096 .f32) : FVec Ideal S16x4096 .bf16 :=
  fun i => linearAt X Wc Sc B ⟨(i 0).val, (i 0).isLt⟩ ⟨(i 1).val, (i 1).isLt⟩

/-- Every window's block index at every grid point. -/
theorem idx : ∀ t : Fin cfg0.N, win0_0.index t = ![0, 0] ∧ win0_1.index t = ![t.val, 0] ∧ win0_2.index t = ![0, t.val]
      ∧ win0_3.index t = ![0, t.val] ∧ win0_4.index t = ![0, t.val] :=
  (by decide +kernel : ∀ t : Fin grid0.N, _)

/-- The region finds `x` with its batch and sequence axes merged. -/
theorem V_x (c : Dev nD) : V m c main_v0
    = shapeCast S16x11008 (m ((c : Thread nD τ).loc main_arg0)) Gen.shapeCasts_S16x1x11008_S16x11008 := by
  show StableHlo.after hostOps0 (fun b => m (c, b)) _ = _
  after_results
  rfl

/-- The region finds the scales as one row. -/
theorem V_scale (c : Dev nD) : V m c main_v1
    = shapeCast S1x4096 (m ((c : Thread nD τ).loc main_arg2)) Gen.shapeCasts_S4096_S1x4096 := by
  show StableHlo.after hostOps0 (fun b => m (c, b)) _ = _
  after_results
  rfl

/-- The region finds the biases as one row. -/
theorem V_bias (c : Dev nD) : V m c main_v2
    = shapeCast S1x4096 (m ((c : Thread nD τ).loc main_arg3)) Gen.shapeCasts_S4096_S1x4096 := by
  show StableHlo.after hostOps0 (fun b => m (c, b)) _ = _
  after_results
  rfl

/-- The block of `x` at any point: all of `x`. -/
theorem x_at (c : Dev nD) (t : Fin cfg0.N) (r : Fin 16) (k : Fin 11008) :
    iblk m c 0 t (ix2 r k) = m ((c : Thread nD τ).loc main_arg0) (ix3 r 0 k) := by
  have e : ((cfg0.win 0).blk t).view.emb (ix2 r k) = (ix2 r k : S16x11008.Idx) := by
    have h : win0_0.index t = ![0, 0] := (idx t).1
    have h0 : win0_0.index t (0 : Fin 2) = 0 := by rw [h]; rfl
    have h1 : win0_0.index t (1 : Fin 2) = 0 := by rw [h]; rfl
    funext a; apply Fin.ext
    match a with
    | ⟨0, _⟩ => show win0_0.index t (0 : Fin 2) * 16 + 1 * r.val = r.val; omega
    | ⟨1, _⟩ => show win0_0.index t (1 : Fin 2) * 11008 + 1 * k.val = k.val; omega
  show V m c main_v0 (((cfg0.win 0).blk t).view.emb (ix2 r k)) = _
  rw [e, V_x]
  exact merged_at _ r k

/-- The block of weights at point `t`: rows `512 t` to `512 t + 511`. -/
theorem w_at (c : Dev nD) (t : Fin cfg0.N) (n : Fin 512) (k : Fin 11008) (h : t.val * 512 + n.val < 4096) :
    iblk m c 1 t (ix2 n k) = m ((c : Thread nD τ).loc main_arg1) (ix2 ⟨t.val * 512 + n.val, h⟩ k) := by
  have e : ((cfg0.win 1).blk t).view.emb (ix2 n k) = (ix2 ⟨t.val * 512 + n.val, h⟩ k : S4096x11008.Idx) := by
    have h : win0_1.index t = ![t.val, 0] := (idx t).2.1
    have h0 : win0_1.index t (0 : Fin 2) = t.val := by rw [h]; rfl
    have h1 : win0_1.index t (1 : Fin 2) = 0 := by rw [h]; rfl
    funext a; apply Fin.ext
    match a with
    | ⟨0, _⟩ => show win0_1.index t (0 : Fin 2) * 512 + 1 * n.val = t.val * 512 + n.val; omega
    | ⟨1, _⟩ => show win0_1.index t (1 : Fin 2) * 11008 + 1 * k.val = k.val; omega
  show V m c main_arg1 (((cfg0.win 1).blk t).view.emb (ix2 n k)) = _
  rw [e, V_main_arg1]

/-- The block of scales at point `t`: channels `512 t` to `512 t + 511`. -/
theorem scale_at (c : Dev nD) (t : Fin cfg0.N) (n : Fin 512) (h : t.val * 512 + n.val < 4096) :
    iblk m c 2 t (ix2 0 n) = m ((c : Thread nD τ).loc main_arg2) (ix1 ⟨t.val * 512 + n.val, h⟩) := by
  have e : ((cfg0.win 2).blk t).view.emb (ix2 0 n) = (ix2 0 ⟨t.val * 512 + n.val, h⟩ : S1x4096.Idx) := by
    have h : win0_2.index t = ![0, t.val] := (idx t).2.2.1
    have h0 : win0_2.index t (0 : Fin 2) = 0 := by rw [h]; rfl
    have h1 : win0_2.index t (1 : Fin 2) = t.val := by rw [h]; rfl
    funext a; apply Fin.ext
    match a with
    | ⟨0, _⟩ => show win0_2.index t (0 : Fin 2) * 1 + 1 * 0 = 0; omega
    | ⟨1, _⟩ => show win0_2.index t (1 : Fin 2) * 512 + 1 * n.val = t.val * 512 + n.val; omega
  show V m c main_v1 (((cfg0.win 2).blk t).view.emb (ix2 0 n)) = _
  rw [e, V_scale]
  exact row_at _ ⟨t.val * 512 + n.val, h⟩

/-- The block of biases at point `t`: channels `512 t` to `512 t + 511`. -/
theorem bias_at (c : Dev nD) (t : Fin cfg0.N) (n : Fin 512) (h : t.val * 512 + n.val < 4096) :
    iblk m c 3 t (ix2 0 n) = m ((c : Thread nD τ).loc main_arg3) (ix1 ⟨t.val * 512 + n.val, h⟩) := by
  have e : ((cfg0.win 3).blk t).view.emb (ix2 0 n) = (ix2 0 ⟨t.val * 512 + n.val, h⟩ : S1x4096.Idx) := by
    have h : win0_3.index t = ![0, t.val] := (idx t).2.2.2.1
    have h0 : win0_3.index t (0 : Fin 2) = 0 := by rw [h]; rfl
    have h1 : win0_3.index t (1 : Fin 2) = t.val := by rw [h]; rfl
    funext a; apply Fin.ext
    match a with
    | ⟨0, _⟩ => show win0_3.index t (0 : Fin 2) * 1 + 1 * 0 = 0; omega
    | ⟨1, _⟩ => show win0_3.index t (1 : Fin 2) * 512 + 1 * n.val = t.val * 512 + n.val; omega
  show V m c main_v2 (((cfg0.win 3).blk t).view.emb (ix2 0 n)) = _
  rw [e, V_bias]
  exact row_at _ ⟨t.val * 512 + n.val, h⟩

/-- Where the result's block sits at point `t`: columns `512 t` to `512 t + 511`. -/
theorem out_place (t : Fin cfg0.N) (r : Fin 16) (n : Fin 512) (h : t.val * 512 + n.val < 4096) :
    ((cfg0.win 4).blk t).view.emb (ix2 r n) = (ix2 r ⟨t.val * 512 + n.val, h⟩ : S16x4096.Idx) := by
  have h : win0_4.index t = ![0, t.val] := (idx t).2.2.2.2
  have h0 : win0_4.index t (0 : Fin 2) = 0 := by rw [h]; rfl
  have h1 : win0_4.index t (1 : Fin 2) = t.val := by rw [h]; rfl
  funext a; apply Fin.ext
  match a with
  | ⟨0, _⟩ => show win0_4.index t (0 : Fin 2) * 16 + 1 * r.val = r.val; omega
  | ⟨1, _⟩ => show win0_4.index t (1 : Fin 2) * 512 + 1 * n.val = t.val * 512 + n.val; omega

/-- What grid point `t` stores at index `y` of its block is the linear layer's element at the place of `y` in the array. -/
theorem point (c : Dev nD) (t : Fin cfg0.N) (y : S16x512.Idx) :
    k0_pay1 (F := Ideal) (iblk m c 0 t) (iblk m c 1 t) (iblk m c 2 t) (iblk m c 3 t) y
      = out2 (m ((c : Thread nD τ).loc main_arg0)) (m ((c : Thread nD τ).loc main_arg1))
          (m ((c : Thread nD τ).loc main_arg2)) (m ((c : Thread nD τ).loc main_arg3)) (((cfg0.win 4).blk t).view.emb y) := by
  obtain ⟨r, n, rfl⟩ : ∃ (r : Fin 16) (n : Fin 512), y = ix2 r n := ⟨_, _, ValueIdx.eq_ix2 y⟩
  have ht : t.val < 8 := lt_of_lt_of_eq t.isLt Gen.N_0
  have hn : t.val * 512 + n.val < 4096 := by omega
  rw [out_place t r n hn]
  refine (block_at _ _ _ _ r n).trans ?_
  show _ = linearAt _ _ _ _ r ⟨t.val * 512 + n.val, hn⟩
  unfold linearAt
  rw [scale_at m c t n hn, bias_at m c t n hn]
  simp only [x_at, w_at m c t n _ hn]

/-- After the run the pallas_call's array is the linear layer of the arguments. -/
theorem final (c : Dev nD) : (dats m 0 c).arrAt 4 (cfgs 0).N
    = out2 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The program's result after the run: the pallas_call's array with its row axis split again. -/
theorem tail (c : Dev nD) : Pipeline.afterTail₀ cfgs (dats m) 0 (V0 m) [hostOps1] c main_v4
    = shapeCast S16x1x4096 ((dats m 0 c).arrAt 4 (cfgs 0).N) Gen.shapeCasts_S16x4096_S16x1x4096 := by
  unfold Pipeline.afterTail₀
  simp only [List.flatten_cons, List.flatten_nil, List.append_nil]
  unfold hostOps1
  after_results
  exact congrArg (fun A => shapeCast S16x1x4096 A Gen.shapeCasts_S16x4096_S16x1x4096)
    (Pipeline.withArrays_arr spec0 launch0.win.arr_inj c (V0 m c) (fun w => (dats m 0 c).arrAt w (cfgs 0).N) 4)

/-- The kernel's result after the run is the reference's result on the same arguments. -/
theorem result (c : Dev nD) : Pipeline.afterTail₀ cfgs (dats m) 0 (V0 m) [hostOps1] c main_v4
    = Cert.ReferenceIdeal.Gen.k0_pay1 (F := Ideal) (m ((c : Thread nD τ).loc main_arg1)) (m ((c : Thread nD τ).loc main_arg0))
        (m ((c : Thread nD τ).loc main_arg2)) (m ((c : Thread nD τ).loc main_arg3)) := by
  rw [tail, final]
  funext i
  obtain ⟨r, q, n, rfl⟩ : ∃ (r : Fin 16) (q : Fin 1) (n : Fin 4096), i = ix3 r q n := ⟨_, _, _, ValueIdx.eq_ix3 i⟩
  exact (split_at _ r q n).trans (reference_at _ _ _ _ r q n).symm

end Cert.KernelIdeal.LinearValue

end
-- ==== Proof.lean ====
/- The certificate of the weight-only fp8 linear layer: each program terminates without fault and leaves its arguments
   unchanged (the generated frames), the ideal program is the kernel's own text, and over the extended reals the kernel's
   result is the reference's (`Proof/KernelValue.lean`). -/
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.KernelValue
public import Idealize.ShloMosaic.Lib.Claim

@[expose] public section

set_option maxRecDepth 16384

noncomputable section

namespace Cert.Proof

open Idealize.ShloMosaic Idealize.SL.Sem

/-- From memories that agree on the arguments, kernel and reference end with equal results and unchanged arguments. -/
theorem algebraic : Cert.algebraic_KernelIdeal_ReferenceIdeal := by
  intro m g m' g' _ hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v4, ?_, ?_⟩
  · refine θ_run_mono (θ_run_and (Cert.KernelIdeal.Gen.run_main m g) (Cert.KernelIdeal.Gen.unchanged m g)) fun r h c => ?_
    exact ⟨(h.1 c).2 Cert.KernelIdeal.main_v4 (Pipeline.mem_restRefs_of Cert.KernelIdeal.main_v4 (by decide) (by decide)), h.2 c⟩
  · refine θ_run_mono (Cert.ReferenceIdeal.Value.run m' g') fun r h c => ⟨(h c).1.trans ?_, (h c).2⟩
    obtain ⟨h0, h1, h2, h3⟩ := hagree c
    refine Eq.trans ?_ (Cert.KernelIdeal.LinearValue.result m c).symm
    exact congr (congr (congr (congrArg Cert.ReferenceIdeal.Gen.k0_pay1 h1) h0) h2) h3

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
